-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x4096 : Shape := ⟨2, ![4096, 4096]⟩
abbrev S11008x2048 : Shape := ⟨2, ![11008, 2048]⟩
abbrev S11008 : Shape := ⟨1, ![11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4096x4096 .f32) (main_arg1 : IVec S11008x2048 32) (main_arg2 : FVec F S11008 .f32) (main_arg3 : FVec F S11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4096x4096 : Shape := ⟨2, ![4096, 4096]⟩
abbrev S11008x2048 : Shape := ⟨2, ![11008, 2048]⟩
abbrev S11008 : Shape := ⟨1, ![11008]⟩
abbrev S1x11008 : Shape := ⟨2, ![1, 11008]⟩
abbrev S4096x11008 : Shape := ⟨2, ![4096, 11008]⟩
abbrev S1024x4096 : Shape := ⟨2, ![1024, 4096]⟩
abbrev S1024x2048 : Shape := ⟨2, ![1024, 2048]⟩
abbrev S1x1024 : Shape := ⟨2, ![1, 1024]⟩
abbrev S1024x1024 : Shape := ⟨2, ![1024, 1024]⟩
abbrev S1024x1 : Shape := ⟨2, ![1024, 1]⟩
abbrev S1024 : Shape := ⟨1, ![1024]⟩
abbrev S2048x1024 : Shape := ⟨2, ![2048, 1024]⟩
abbrev S4096x1024 : Shape := ⟨2, ![4096, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S11008x2048, .i32⟩
  | .hbm, ⟨2, _⟩ => ⟨S11008, .f32⟩
  | .hbm, ⟨3, _⟩ => ⟨S11008, .f32⟩
  | .hbm, ⟨4, _⟩ => ⟨S4096x4096, .bf16⟩
  | .hbm, ⟨5, _⟩ => ⟨S1x11008, .f32⟩
  | .hbm, ⟨6, _⟩ => ⟨S1x11008, .f32⟩
  | .hbm, ⟨7, _⟩ => ⟨S4096x11008, .f32⟩
  | .local _ .vmem, ⟨0, _⟩ => ⟨S1024x4096, .bf16⟩
  | .local _ .vmem, ⟨1, _⟩ => ⟨S1024x4096, .bf16⟩
  | .local _ .vmem, ⟨2, _⟩ => ⟨S1024x2048, .i32⟩
  | .local _ .vmem, ⟨3, _⟩ => ⟨S1024x2048, .i32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4096x4096 : Shape := ⟨2, ![4096, 4096]⟩
abbrev S11008x2048 : Shape := ⟨2, ![11008, 2048]⟩
abbrev S11008 : Shape := ⟨1, ![11008]⟩
abbrev S_ : Shape := ⟨0, ![]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S11008x1 : Shape := ⟨2, ![11008, 1]⟩
abbrev S4096x11008 : Shape := ⟨2, ![4096, 11008]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S11008x2048, .i32⟩
  | .hbm, ⟨2, _⟩ => ⟨S11008, .f32⟩
  | .hbm, ⟨3, _⟩ => ⟨S11008, .f32⟩
  | .hbm, ⟨4, _⟩ => ⟨S_, .i32⟩
  | .hbm, ⟨5, _⟩ => ⟨S11008x2048, .i32⟩
  | .hbm, ⟨6, _⟩ => ⟨S11008x2048, .i32⟩
  | .hbm, ⟨7, _⟩ => ⟨S11008x2048, .f32⟩
  | .hbm, ⟨8, _⟩ => ⟨S_, .i32⟩
  | .hbm, ⟨9, _⟩ => ⟨S11008x2048, .i32⟩
  | .hbm, ⟨10, _⟩ => ⟨S11008x2048, .i32⟩
  | .hbm, ⟨11, _⟩ => ⟨S_, .i32⟩
  | .hbm, ⟨12, _⟩ => ⟨S11008x2048, .i32⟩
  | .hbm, ⟨13, _⟩ => ⟨S11008x2048, .i32⟩
  | .hbm, ⟨14, _⟩ => ⟨S11008x2048, .f32⟩
  | .hbm, ⟨15, _⟩ => ⟨S11008x2048x1, .f32⟩
  | .hbm, ⟨16, _⟩ => ⟨S11008x2048x1, .f32⟩
  | .hbm, ⟨17, _⟩ => ⟨S11008x2048x2, .f32⟩
  | .hbm, ⟨18, _⟩ => ⟨S11008x4096, .f32⟩
  | .hbm, ⟨19, _⟩ => ⟨S11008x1, .f32⟩
  | .hbm, ⟨20, _⟩ => ⟨S11008x4096, .f32⟩
  | .hbm, ⟨21, _⟩ => ⟨S11008x4096, .f32⟩
  | .hbm, ⟨22, _⟩ => ⟨S11008x1, .f32⟩
  | .hbm, ⟨23, _⟩ => ⟨S11008x4096, .f32⟩
  | .hbm, ⟨24, _⟩ => ⟨S11008x4096, .f32⟩
  | .hbm, ⟨25, _⟩ => ⟨S4096x11008, .f32⟩
  | .hbm, ⟨26, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.KernelFrame.lean ====
module

public import proofs.«01_k».proof.Proof.KernelBody

@[expose] public section

/-!
  The kernel as compiled, at any float values: every execution ends, the argument arrays are as they were and every
  counter is at zero. Nothing is said of the result array: what the body leaves in its buffer at the cut blocks is computed
  from words past the arrays' ends.
-/

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window whose contents are not tracked: the result's. -/
def untracked : Fin 5 → Bool := fun w => w.val == 4

/-- The packed codes' buffer after a point: the part inside the array at the array's block, zeros past it. -/
def codes (c : Dev nD) (t : Fin cfg0.N) : S1024x2048.Idx → Elt F .i32 :=
  win0_1.fill (grid0.coords t) (fun _ => (0#32 : BitVec 32)) (iblk m c 1 t)
/-- The scales' buffer likewise. -/
def scales (c : Dev nD) (t : Fin cfg0.N) : S1x1024.Idx → Elt F .f32 :=
  win0_2.fill (grid0.coords t) (fun _ => Scalar.ofBits .f32 0#32) (iblk m c 2 t)
/-- The zero points' buffer likewise. -/
def zeros (c : Dev nD) (t : Fin cfg0.N) : S1x1024.Idx → Elt F .f32 :=
  win0_3.fill (grid0.coords t) (fun _ => Scalar.ofBits .f32 0#32) (iblk m c 3 t)

/-- The proof data: the arrays as the pipeline finds them, the inputs' buffers at their blocks, the result's unnamed, the
    scratch at anything, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => codes m c t
    | ⟨2, _⟩ => scales m c t
    | ⟨3, _⟩ => zeros m c t
    | ⟨4, h⟩ => Pipeline.Dat.unnamed (cfg := cfg0) ⟨4, h⟩ t
  Φ _ := Pipeline.ΦA spec0 c
  q _ := fullShare
  owed _ := 0

/-- The arrays of the proof data are what the pipeline finds. -/
theorem A_eq (c : Dev nD) (w : Fin cfg0.W) : (dats m 0 c).A w = V m c (Pipeline.arrRef spec0 w) := by
  dsimp only [dats]

/-- After the body the activations' buffer is at its block. -/
theorem after_0 (c : Dev nD) (t : Fin cfg0.N) : (dats m 0 c).after 0 t = iblk m c 0 t := by dsimp only [dats]

/-- Before the body too, fetched at that point or not. -/
theorem before_0 (c : Dev nD) (t : Fin cfg0.N) (d) : (dats m 0 c).before 0 t d = iblk m c 0 t :=
  before0_0_of m (dats m 0 c) (A_eq m c 0) (after_0 m c) t d

/-- A buffer fetched at point `t` holds the window's block on the part inside the array and `d` past it. -/
theorem before_fetched (c : Dev nD) (w : Fin cfg0.W) (t : Fin cfg0.N) (hf : (cfg0.win w).fetch t = true) (d) :
    (dats m 0 c).before w t d = (cfg0.win w).fill (cfg0.grid.coords t) d (iblk m c w t) := by
  unfold Dat.before; rw [if_pos hf]
  unfold Dat.fetched Dat.blockOf iblk; rw [A_eq]

/-- What the body is called with at point `t`. -/
def pre (c : Dev nD) (t : Fin cfg0.N) : sProp 𝕄 :=
  iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))

/-- What it returns: the three cut inputs described on the parts inside their arrays. -/
def post (c : Dev nD) (t : Fin cfg0.N) : sProp 𝕄 :=
  iprop(Pipeline.ΦA spec0 c ∗ (dats m 0 c).owesAt () t.castSucc
    ∗ owns (c : Thread nD τ) (st0_0 t) fullShare ((dats m 0 c).after 0 t)
    ∗ (∃ d, owns (c : Thread nD τ) (st0_1 t) fullShare (win0_1.fill (grid0.coords t) d (win0_1.cut (grid0.coords t) (codes m c t))))
    ∗ (∃ d, owns (c : Thread nD τ) (st0_2 t) fullShare (win0_2.fill (grid0.coords t) d (win0_2.cut (grid0.coords t) (scales m c t))))
    ∗ (∃ d, owns (c : Thread nD τ) (st0_3 t) fullShare (win0_3.fill (grid0.coords t) d (win0_3.cut (grid0.coords t) (zeros m c t))))
    ∗ (∃ d, owns (c : Thread nD τ) (st0_4 t) fullShare d))

/-- The part of the packed codes' buffer inside the array is the block. -/
theorem cut_codes (c : Dev nD) (t : Fin cfg0.N) : win0_1.cut (grid0.coords t) (codes m c t) = iblk m c 1 t := win0_1.cut_fill _ _ _
/-- The same for the scales. -/
theorem cut_scales (c : Dev nD) (t : Fin cfg0.N) : win0_2.cut (grid0.coords t) (scales m c t) = iblk m c 2 t := win0_2.cut_fill _ _ _
/-- The same for the zero points. -/
theorem cut_zeros (c : Dev nD) (t : Fin cfg0.N) : win0_3.cut (grid0.coords t) (zeros m c t) = iblk m c 3 t := win0_3.cut_fill _ _ _

set_option maxHeartbeats 1000000 in
/-- The body's triple at a point: from the buffers as fetched to the buffers as handed back. -/
theorem triple (c : Dev nD) (t : Fin cfg0.N) :
    pre m c t ⊢ wp frame (wpE (defs₀ (F := F)) Variants.none c none) Set.univ (bodyAt0 t) (fun _ => post m c t) := by
  unfold pre post bodyAt0
  rw [after_0, cut_codes, cut_scales, cut_zeros, rest_eq]
  simp only [before_0, before_fetched m c 1 t (fetch0_1 t), before_fetched m c 2 t (fetch0_2 t), before_fetched m c 3 t (fetch0_3 t)]
  iintro ⟨⟨HS, Hg⟩, Ho, ⟨%d0, H0⟩, ⟨%d1, H1⟩, ⟨%d2, H2⟩, ⟨%d3, H3⟩, ⟨%d4, H4⟩⟩
  by_cases h0 : t.val % 11 = 0
  · iapply (run_first c (grid0.coords t) _ _ _ _ _ _ _ _ _ _ _ _ (iblk m c 0 t) (win0_1.fill (grid0.coords t) d1 (iblk m c 1 t))
      (win0_2.fill (grid0.coords t) d2 (iblk m c 2 t)) (win0_3.fill (grid0.coords t) d3 (iblk m c 3 t)) ((first_iff t).mpr h0) Set.univ _)
    unfold inputs
    isplitl [H0 H1 H2 H3]
    · isplitl [H0]; · iexact H0
      isplitl [H1]; · iexact H1
      isplitl [H2]; · iexact H2
      iexact H3
    isplitl [H4]; · iexists _; iexact H4
    isplitl [HS]; · iexact HS
    iintro ⟨⟨H0, H1, H2, H3⟩, H4, HS⟩
    isplitl [HS Hg]
    · isplitl [HS]; · iexists _; iexact HS
      iexact Hg
    isplitl [Ho]; · iexact Ho
    isplitl [H0]; · iexact H0
    isplitl [H1]; · iexists _; iexact H1
    isplitl [H2]; · iexists _; iexact H2
    isplitl [H3]; · iexists _; iexact H3
    iexists _; iexact H4
  · icases HS with ⟨%xs, HS⟩
    iapply (run_later c (grid0.coords t) _ _ _ _ _ _ _ _ _ _ _ _ (iblk m c 0 t) (win0_1.fill (grid0.coords t) d1 (iblk m c 1 t))
      (win0_2.fill (grid0.coords t) d2 (iblk m c 2 t)) (win0_3.fill (grid0.coords t) d3 (iblk m c 3 t)) (fun h => h0 ((first_iff t).mp h)) xs Set.univ _)
    unfold inputs
    isplitl [H0 H1 H2 H3]
    · isplitl [H0]; · iexact H0
      isplitl [H1]; · iexact H1
      isplitl [H2]; · iexact H2
      iexact H3
    isplitl [H4]; · iexists _; iexact H4
    isplitl [HS]; · iexact HS
    iintro ⟨⟨H0, H1, H2, H3⟩, H4, HS⟩
    isplitl [HS Hg]
    · isplitl [HS]; · iexists _; iexact HS
      iexact Hg
    isplitl [Ho]; · iexact Ho
    isplitl [H0]; · iexact H0
    isplitl [H1]; · iexists _; iexact H1
    isplitl [H2]; · iexists _; iexact H2
    isplitl [H3]; · iexists _; iexact H3
    iexists _; iexact H4

/-- The body table's entry at point `t`'s buffers is the body. -/
theorem body_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) :
    BodyObligationLoose (dats (F := F) m 0 c) (defs₀ (F := F)) Variants.none () Set.univ untracked := fun t => by
  rw [bigSep_W0, bigSep_W0, body_row]
  exact triple_restated (triple m c t) rfl .rfl fun _ => .rfl

-- the launch theorem's implicit arguments are found by unifying its conclusion with this one
set_option backward.isDefEq.respectTransparency.types false in
/-- The launch: every execution ends, the arrays other than the result's at what the proof data says, the counters at zero. -/
theorem run : θ_run defs (onTc (τ := τ) (main (F := F))) (s₀ m ρ)
    (fun r => Pipeline.RDat.FramePost (cfgs 0) (fun c => (dats m 0 c).toRForget untracked) (V m) r ∧ r.2.sem = fun _ => 0) :=
  Pipeline.θ_run_frame_forget (Q' := _) cfgs (dats m) (0 : Fin 1) launch0 defs₀ Variants.none untracked m ρ main
    (hbody := body_obligation m) (hshare := fun c => (dats m 0 c).share_full fun _ => rfl)
    (howed := fun _ _ => rfl) (V := V m) (hmain := hmain m Variants.none) (hA := A_eq m) (hΦ := fun _ _ => rfl)

/-- Every execution of the kernel ends with the argument arrays as they were and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      (Pipeline.RDat.FramePost.arr_in h.1 c 1 rfl).trans ((A_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run m ρ)

end Cert.Kernel.Body

end
-- ==== Proof.IdealBody.lean ====
module

public import proofs.«01_k».proof.Proof.Gen.KernelIdeal.Frame
public import proofs.«01_k».proof.Proof.Gen.KernelIdeal.Skeleton
public import Idealize.ShloMosaic.Lib.VecWindow
public import proofs.«01_k».proof.Proof.KernelFrame

@[expose] public section

/-!
  The kernel body of `KernelIdeal` on any staging buffers, at the two kinds of grid point: where it computes the
  activations' row sums into the scratch and uses them, and where it finds them there.
-/

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition under which the body computes the row sums: the second grid coordinate is zero. -/
abbrev first (i : grid0.Coords) : Prop :=
  (Scalar.cmpi .ne (Scalar.extui (Scalar.cmpi .eq (BitVec.ofNat 32 (i 1).val) 0#32)) 0#32) = 1#1

/-- Over the grid's points it holds at the multiples of eleven. -/
theorem first_iff : ∀ t : Fin cfg0.N, first (grid0.coords t) ↔ t.val % 11 = 0 :=
  (fun t => by
    have ht : t.val < 44 := Nat.lt_of_lt_of_eq t.isLt N_0
    have e1 : (grid0.coords t 1).val = t.val / 1 % 11 := Pipeline.Grid.coords_val t 1 (by decide) rfl
    simp only [first, e1]
    word_cmp
   : ∀ t : Fin grid0.N, first (grid0.coords t) ↔ t.val % 11 = 0)

/-- The scratch holding the row sums, as a memref. -/
abbrev sums : Memref sig .tc .vmem S1024x1 .f32 := Memref.whole cc0_scratch0

/-- What the launch hands the pipeline beside the windows: the scratch at some contents and the generator register. -/
theorem rest_eq (c : Dev nD) :
    (Pipeline.ΦA spec0 c : sProp 𝕄)
      = iprop(iprop((∃ d, owns (c : Thread nD τ) sums fullShare d)) ∗ (∃ r, prngReg c r)) := by
  unfold Pipeline.ΦA; rw [scopedRest0_eq]; simp only [sums, owns_whole]; try rfl

section

variable (c : Dev nD) (i : grid0.Coords)
  (a2 : Memref sig .tc .vmem S1024x4096 .bf16) (h2 : a2.IsWhole) (a3 : Memref sig .tc .vmem S1024x2048 .i32) (h3 : a3.IsWhole)
  (a4 : Memref sig .tc .vmem S1x1024 .f32) (h4 : a4.IsWhole) (a5 : Memref sig .tc .vmem S1x1024 .f32) (h5 : a5.IsWhole)
  (a6 : Memref sig .tc .vmem S1024x1024 .f32) (h6 : a6.IsWhole) (a7 : Memref sig .tc .vmem S1024x1 .f32) (h7 : a7.IsWhole)
  (x0 : Vec F S1024x4096 .bf16) (x1 : Vec F S1024x2048 .i32) (x2 x3 : Vec F S1x1024 .f32)

/-- The four input buffers, held at the given contents. -/
def inputs : sProp 𝕄 :=
  iprop(owns (c : Thread nD τ) a2 fullShare x0 ∗ owns (c : Thread nD τ) a3 fullShare x1
    ∗ owns (c : Thread nD τ) a4 fullShare x2 ∗ owns (c : Thread nD τ) a5 fullShare x3)

set_option maxHeartbeats 1000000 in
/-- Where the row sums are computed: whatever the output buffer and the scratch held, the scratch ends at the sums of the
    activations' block and the output buffer at the product block computed with them. -/
theorem run_first (hc : first i) (E : Set ℕ) (K : PUnit → sProp 𝕄) :
    iprop(inputs c a2 a3 a4 a5 x0 x1 x2 x3 ∗ (∃ d, owns (c : Thread nD τ) a6 fullShare d) ∗ (∃ d, owns (c : Thread nD τ) a7 fullShare d)
        ∗ (iprop(inputs c a2 a3 a4 a5 x0 x1 x2 x3 ∗ owns (c : Thread nD τ) a6 fullShare (k0_pay2 x1 x0 x2 x3 (k0_pay1 x0))
            ∗ owns (c : Thread nD τ) a7 fullShare (k0_pay1 x0)) -∗ K ⟨⟩))
      ⊢ wp frame (wpE (defs₀ (F := F)) Variants.none c none) E (cc0_qlin_int4 i a2 h2 a3 h3 a4 h4 a5 h5 a6 h6 a7 h7) K := by
  simp only [cc0_qlin_int4_eq_skeleton]; unfold cc0_qlin_int4_skel
  unfold inputs owns
  iintro ⟨⟨⟨%f0, %hf0, H0⟩, ⟨%f1, %hf1, H1⟩, ⟨%f2, %hf2, H2⟩, ⟨%f3, %hf3, H3⟩⟩, ⟨%d4, %f4, -, H4⟩, ⟨%ds0, %fs0, -, HS0⟩, Hk⟩
  obtain rfl := h2.eq_unread hf0; obtain rfl := h3.eq_unread hf1; obtain rfl := h4.eq_unread hf2; obtain rfl := h5.eq_unread hf3
  sl_exec (disch := first | sl_exact hc)
  sl_step
  iapply Hk
  isplitl [H0 H1 H2 H3]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    · iexists _; isplitr; · ipureintro; exact hf3
      iexact H3
  isplitl [H4]
  · iexists _; isplitr
    swap; · iexact H4
    ipureintro
    delta run_first.sl.v26 run_first.sl.HS0_1
    rw [View.read_writes_full, View.readCov_full, View.readAt_full, View.readAt_full,
      View.readAt_full, View.readAt_full, hf0, hf1, hf2, hf3]
  · iexists _; isplitr
    swap; · iexact HS0
    ipureintro
    delta run_first.sl.HS0_1
    rw [View.read_writes_full, View.readAt_full, hf0]

set_option maxHeartbeats 1000000 in
/-- Where they are found: the scratch at `xs` stays so and the output buffer ends at the product block computed with `xs`. -/
theorem run_later (hc : ¬ first i) (xs : Vec F S1024x1 .f32) (E : Set ℕ) (K : PUnit → sProp 𝕄) :
    iprop(inputs c a2 a3 a4 a5 x0 x1 x2 x3 ∗ (∃ d, owns (c : Thread nD τ) a6 fullShare d) ∗ owns (c : Thread nD τ) a7 fullShare xs
        ∗ (iprop(inputs c a2 a3 a4 a5 x0 x1 x2 x3 ∗ owns (c : Thread nD τ) a6 fullShare (k0_pay2 x1 x0 x2 x3 xs)
            ∗ owns (c : Thread nD τ) a7 fullShare xs) -∗ K ⟨⟩))
      ⊢ wp frame (wpE (defs₀ (F := F)) Variants.none c none) E (cc0_qlin_int4 i a2 h2 a3 h3 a4 h4 a5 h5 a6 h6 a7 h7) K := by
  simp only [cc0_qlin_int4_eq_skeleton]; unfold cc0_qlin_int4_skel
  unfold inputs owns
  iintro ⟨⟨⟨%f0, %hf0, H0⟩, ⟨%f1, %hf1, H1⟩, ⟨%f2, %hf2, H2⟩, ⟨%f3, %hf3, H3⟩⟩, ⟨%d4, %f4, -, H4⟩, ⟨%fs0, %hfs0, HS0⟩, Hk⟩
  obtain rfl := h2.eq_unread hf0; obtain rfl := h3.eq_unread hf1; obtain rfl := h4.eq_unread hf2; obtain rfl := h5.eq_unread hf3; obtain rfl := h7.eq_unread hfs0
  sl_exec (disch := first | sl_exact hc)
  sl_step
  iapply Hk
  isplitl [H0 H1 H2 H3]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    · iexists _; isplitr; · ipureintro; exact hf3
      iexact H3
  isplitl [H4]
  · iexists _; isplitr
    swap; · iexact H4
    ipureintro
    rw [View.read_writes_full, View.readAt_full, View.readAt_full, View.readAt_full,
      View.readAt_full, View.readAt_full, hf0, hf1, hf2, hf3, hfs0]
  · iexists _; isplitr
    swap; · iexact HS0
    ipureintro
    exact hfs0

end

end Cert.KernelIdeal.Body

end
-- ==== Proof.Codes.lean ====
module

public import Idealize.ShloMosaic.Lib.Pointwise

@[expose] public section

/-!
  Four-bit codes: a packed word carries two of them in its low byte, the even column's in the low half and the odd
  column's in the high half. Here are the two readings of a code: the kernel's, through a bfloat16 bit pattern, and the
  reference's, through a conversion of an integer.
-/

noncomputable section

namespace Cert.Codes

open Idealize.ShloMosaic

/-- The packed column that holds column `k`: two columns to a word. -/
def half (k : Fin 4096) : Fin 2048 := ⟨k.val / 2, by have := k.isLt; omega⟩

/-- The four bits of the word `p` that hold the code of parity `q`. -/
def nibble (q : ℕ) (p : BitVec 32) : BitVec 4 := p.extractLsb' (4 * q) 4

/-- The code of parity `q` in the word `p`, a number from 0 to 15. -/
def code (q : ℕ) (p : BitVec 32) : ℝ := ((nibble q p).toNat : ℝ)

/-- The word the kernel makes of a packed word: each code in a half of its own, under the bits of 128 in bfloat16. -/
def word (p : BitVec 32) : BitVec 32 := ((p &&& 15#32) ||| ((p &&& 240#32) <<< 12)) ||| 1124090624#32

/-- The low half of the kernel's word is the even code's four bits under `0x4300`. -/
theorem word_low (p : BitVec 32) : (word p).extractLsb' 0 16 = 0x4300#16 ||| (nibble 0 p).setWidth 16 := by
  apply BitVec.eq_of_getLsbD_eq
  intro i hi
  interval_cases i <;> simp [word, nibble, BitVec.getLsbD_extractLsb']

/-- The high half of the kernel's word is the odd code's four bits under `0x4300`. -/
theorem word_high (p : BitVec 32) : (word p).extractLsb' 16 16 = 0x4300#16 ||| (nibble 1 p).setWidth 16 := by
  apply BitVec.eq_of_getLsbD_eq
  intro i hi
  interval_cases i <;> simp [word, nibble, BitVec.getLsbD_extractLsb']

/-- The bfloat16 pattern with the four bits `n` under `0x4300` denotes `128 + n`. -/
theorem pattern_value (n : BitVec 4) : Ideal.ofBits .bf16 (0x4300#16 ||| n.setWidth 16) = ((128 + (n.toNat : ℝ) : ℝ) : EReal) := by
  have h1 : ((0x4300#16 ||| n.setWidth 16).extractLsb' 15 1 == 1#1) = false := by revert n; decide
  have h2 : ((0x4300#16 ||| n.setWidth 16).extractLsb' 7 8).toNat = 134 := by revert n; decide
  have h3 : ((0x4300#16 ||| n.setWidth 16).extractLsb' 0 7).toNat = n.toNat := by revert n; decide
  show Ideal.ieee 8 7 (0x4300#16 ||| n.setWidth 16) = _
  unfold Ideal.ieee
  simp only [h1, h2, h3]
  norm_num

/-- The half of parity `q` of the kernel's word denotes 128 more than the code. -/
theorem half_value (p : BitVec 32) (q : ℕ) (hq : q < 2) :
    Ideal.ofBits .bf16 ((word p).extractLsb' (16 * q) 16) = ((128 + code q p : ℝ) : EReal) := by
  unfold code
  interval_cases q
  · exact (congrArg _ (word_low p)).trans (pattern_value _)
  · exact (congrArg _ (word_high p)).trans (pattern_value _)

/-- The pattern `0x43000000` denotes 128 in single precision. -/
theorem bias_value : Ideal.ofBits .f32 0x43000000#32 = ((128 : ℝ) : EReal) := by
  simp [Ideal.ofBits, Ideal.ieee, -EReal.coe_mul]; norm_num

/-- The word's low four bits as an integer are the even code. -/
theorem and_value (p : BitVec 32) : ((p &&& 15#32).toInt : ℝ) = code 0 p := by
  have h : p &&& 15#32 = (nibble 0 p).setWidth 32 := by
    apply BitVec.eq_of_getLsbD_eq
    intro i hi
    interval_cases i <;> simp [nibble, BitVec.getLsbD_extractLsb']
  rw [h, code]
  have : ((nibble 0 p).setWidth 32).toInt = ((nibble 0 p).toNat : ℤ) := by generalize nibble 0 p = n; revert n; decide
  rw [this]; norm_cast

/-- The next four bits as an integer are the odd code. -/
theorem shift_and_value (p : BitVec 32) : ((p.sshiftRight' 4#32 &&& 15#32).toInt : ℝ) = code 1 p := by
  have h : p.sshiftRight' 4#32 &&& 15#32 = (nibble 1 p).setWidth 32 := by
    apply BitVec.eq_of_getLsbD_eq
    intro i hi
    interval_cases i <;> simp [nibble, BitVec.getLsbD_extractLsb', BitVec.getElem_sshiftRight]
  rw [h, code]
  have : ((nibble 1 p).setWidth 32).toInt = ((nibble 1 p).toNat : ℤ) := by generalize nibble 1 p = n; revert n; decide
  rw [this]; norm_cast

end Cert.Codes

end
-- ==== Proof.Payload.lean ====
module

public import proofs.«01_k».proof.Proof.Gen.KernelIdeal.Skeleton
public import proofs.«01_k».proof.Proof.Codes
public import Idealize.ShloMosaic.Lib.BitcastPair

@[expose] public section

/-!
  The two vectors the kernel stores, read at an index over the extended reals: the row sums of a block of activations, and
  a block of the result.
-/

set_option maxRecDepth 16384

noncomputable section

namespace Cert.KernelIdeal.Body

open Cert.KernelIdeal.Gen Cert.Codes
open Idealize.ShloMosaic

/-- The kept sums at row `i` are the sum of the block's row `i`. -/
theorem pay1_apply (x : Vec Ideal S1024x4096 .bf16) (i : Fin 1024) :
    k0_pay1 x (ix2 i 0) = ∑ k : Fin 4096, x (ix2 i k) := by
  pointwise [k0_pay1]

/-- The vector of words the kernel makes of the transposed packed codes, at an index. -/
theorem words_apply (p : Vec Ideal S1024x2048 .i32) (r : Fin 2048) (j : Fin 1024) :
    ori (ori (andi (transpose S2048x1024 [1, 0] p transposes_S1024x2048_p1_0_S2048x1024) (broadcast S2048x1024 15#32))
        (shli (andi (transpose S2048x1024 [1, 0] p transposes_S1024x2048_p1_0_S2048x1024) (broadcast S2048x1024 240#32))
          (broadcast S2048x1024 12#32)))
      (broadcast S2048x1024 1124090624#32) (ix2 r j) = word (p (ix2 j r)) := by
  pointwise
  rfl

/-- Words of two rows read at sixteen bits: row `k` is the half of parity `k % 2` of the word in row `k / 2`. -/
theorem halves_apply (w : S2048x1024.Idx → BitVec 32) (k : Fin 4096) (j : Fin 1024) :
    bitcast S4096x1024 16 w bitcasts_S2048x1024_w32_S4096x1024_w16 (ix2 k j)
      = (w (ix2 (half k) j)).extractLsb' (16 * (k.val % 2)) 16 := by
  rw [bitcast_32_16]
  have e : bitcasts_S2048x1024_w32_S4096x1024_w16.srcIdx (ix2 k j) (k.val / 2) (fun a ha => by
      have := bitcasts_S2048x1024_w32_S4096x1024_w16.pos_lt (ix2 k j) 0 (by decide) a ha
      have hr : S4096x1024.row (ix2 k j) = k.val := rfl
      omega) = ix2 (half k) j := by
    funext c
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))
  exact congrArg (fun y => (w y).extractLsb' (16 * (k.val % 2)) 16) e

/-- A block of the result at row `i` and column `j`: the row of activations against the codes raised by 128, scaled, less
    the row's sum times the scale and the zero point raised by 128. Column `j` alone of the codes, scales and zero points is read. -/
theorem pay2_apply (p : Vec Ideal S1024x2048 .i32) (x : Vec Ideal S1024x4096 .bf16) (s z : Vec Ideal S1x1024 .f32)
    (xs : Vec Ideal S1024x1 .f32) (i j : Fin 1024) :
    k0_pay2 p x s z xs (ix2 i j)
      = (∑ k : Fin 4096, x (ix2 i k) * ((128 + code (k.val % 2) (p (ix2 j (half k))) : ℝ) : EReal)) * s (ix2 0 j)
        - xs (ix2 i 0) * (s (ix2 0 j) * (z (ix2 0 j) + ((128 : ℝ) : EReal))) := by
  pointwise [k0_pay2]
  rw [bias_value]
  congr 2
  refine Finset.sum_congr rfl fun k _ => ?_
  rw [halves_apply, words_apply]
  exact congrArg _ (half_value _ _ (Nat.mod_lt _ (by decide)))

end Cert.KernelIdeal.Body

end
-- ==== Proof.Blocks.lean ====
module

public import proofs.«01_k».proof.Proof.Payload
public import proofs.«01_k».proof.Proof.Gen.KernelIdeal.Frame
public import Idealize.ShloMosaic.Lib.Pipeline.ValueKit.Geometry

@[expose] public section

/-!
  The blocks the grid's points read and write, at coordinates: point `t` is block row `t / 11` and block column `t % 11`.
  The last block column is cut at the arrays' end; an index is spoken of only where it lies inside the array.
-/

set_option maxRecDepth 16384

noncomputable section

namespace Cert.KernelIdeal.Body

open Cert.KernelIdeal.Gen Cert.Codes
open Idealize.ShloMosaic Idealize.ShloMosaic.TcCoe
open Idealize.ShloMosaic.Pipeline (Window)

/-- The activations' block at a point. -/
theorem index_0 : ∀ t : Fin cfg0.N, win0_0.index t = ![t.val / 11, 0] := (by decide +kernel : ∀ t : Fin grid0.N, _)
/-- The packed codes' block at a point. -/
theorem index_1 : ∀ t : Fin cfg0.N, win0_1.index t = ![t.val % 11, 0] := (by decide +kernel : ∀ t : Fin grid0.N, _)
/-- The scales' block at a point. -/
theorem index_2 : ∀ t : Fin cfg0.N, win0_2.index t = ![0, t.val % 11] := (by decide +kernel : ∀ t : Fin grid0.N, _)
/-- The zero points' block at a point. -/
theorem index_3 : ∀ t : Fin cfg0.N, win0_3.index t = ![0, t.val % 11] := (by decide +kernel : ∀ t : Fin grid0.N, _)
/-- The result's block at a point. -/
theorem index_4 : ∀ t : Fin cfg0.N, win0_4.index t = ![t.val / 11, t.val % 11] := (by decide +kernel : ∀ t : Fin grid0.N, _)

/-- How much of the packed codes' block lies inside the array: the columns whole, the rows up to the array's end. -/
theorem size_1 : ∀ t : Fin cfg0.N, win0_1.xsize (grid0.coords t) = ![min 1024 (11008 - t.val % 11 * 1024), 2048] := (by decide +kernel : ∀ t : Fin grid0.N, _)
/-- The same for the scales. -/
theorem size_2 : ∀ t : Fin cfg0.N, win0_2.xsize (grid0.coords t) = ![1, min 1024 (11008 - t.val % 11 * 1024)] := (by decide +kernel : ∀ t : Fin grid0.N, _)
/-- The same for the zero points. -/
theorem size_3 : ∀ t : Fin cfg0.N, win0_3.xsize (grid0.coords t) = ![1, min 1024 (11008 - t.val % 11 * 1024)] := (by decide +kernel : ∀ t : Fin grid0.N, _)
/-- The same for the result. -/
theorem size_4 : ∀ t : Fin cfg0.N, win0_4.xsize (grid0.coords t) = ![1024, min 1024 (11008 - t.val % 11 * 1024)] := (by decide +kernel : ∀ t : Fin grid0.N, _)

variable (m : (ℓ : Loc nD τ sig) → Buf (Elt Ideal) ℓ)

/-- A row of the activations' block is a row of the array. -/
theorem act_apply (c : Dev nD) (t : Fin cfg0.N) (i : Fin 1024) (k : Fin 4096) (r : Fin 4096) (hr : r.val = t.val / 11 * 1024 + i.val) :
    (iblk m c 0 t : S1024x4096.Idx → EReal) (ix2 i k) = (V m c main_call0_v0 : S4096x4096.Idx → EReal) (ix2 r k) := by
  blk_simp [iblk]
  congr 1
  blk_ext [index_0]

/-- A row of the packed codes' buffer that lies inside the array is a row of the array, whatever fills the rest. -/
theorem codes_apply (c : Dev nD) (t : Fin cfg0.N) (d : S1024x2048.Idx → BitVec 32) (j : Fin 1024) (k : Fin 2048) (r : Fin 11008)
    (hr : r.val = t.val % 11 * 1024 + j.val) :
    (win0_1.fill (grid0.coords t) d (iblk m c 1 t) : S1024x2048.Idx → BitVec 32) (ix2 j k) = (V m c main_arg1 : S11008x2048.Idx → BitVec 32) (ix2 r k) := by
  have hm : win0_1.moved (grid0.coords t) (ix2 j k) = true := (win0_1.moved_iff _ _).mpr fun a => by
    rw [size_1]
    have := r.isLt; have := j.isLt
    match a with
    | ⟨0, _⟩ => show j.val < min 1024 _; omega
    | ⟨1, _⟩ => exact k.isLt
  unfold Window.fill
  rw [dif_pos hm]
  blk_simp [iblk]
  congr 1
  blk_ext [index_1]

/-- A scale in the buffer that lies inside the array is the array's. -/
theorem scales_apply (c : Dev nD) (t : Fin cfg0.N) (d : S1x1024.Idx → EReal) (j : Fin 1024) (r : Fin 11008)
    (hr : r.val = t.val % 11 * 1024 + j.val) :
    (win0_2.fill (grid0.coords t) d (iblk m c 2 t) : S1x1024.Idx → EReal) (ix2 0 j) = (V m c main_call0_v1 : S1x11008.Idx → EReal) (ix2 0 r) := by
  have hm : win0_2.moved (grid0.coords t) (ix2 0 j) = true := (win0_2.moved_iff _ _).mpr fun a => by
    rw [size_2]
    have := r.isLt; have := j.isLt
    match a with
    | ⟨0, _⟩ => show 0 < 1; omega
    | ⟨1, _⟩ => show j.val < min 1024 _; omega
  unfold Window.fill
  rw [dif_pos hm]
  blk_simp [iblk]
  congr 1
  blk_ext [index_2]

/-- A zero point in the buffer that lies inside the array is the array's. -/
theorem zeros_apply (c : Dev nD) (t : Fin cfg0.N) (d : S1x1024.Idx → EReal) (j : Fin 1024) (r : Fin 11008)
    (hr : r.val = t.val % 11 * 1024 + j.val) :
    (win0_3.fill (grid0.coords t) d (iblk m c 3 t) : S1x1024.Idx → EReal) (ix2 0 j) = (V m c main_call0_v2 : S1x11008.Idx → EReal) (ix2 0 r) := by
  have hm : win0_3.moved (grid0.coords t) (ix2 0 j) = true := (win0_3.moved_iff _ _).mpr fun a => by
    rw [size_3]
    have := r.isLt; have := j.isLt
    match a with
    | ⟨0, _⟩ => show 0 < 1; omega
    | ⟨1, _⟩ => show j.val < min 1024 _; omega
  unfold Window.fill
  rw [dif_pos hm]
  blk_simp [iblk]
  congr 1
  blk_ext [index_3]

/-- Two points of one block row see one block of activations. -/
theorem act_same (c : Dev nD) (t t' : Fin cfg0.N) (h : t.val / 11 = t'.val / 11) :
    (iblk m c 0 t : S1024x4096.Idx → EReal) = iblk m c 0 t' := by
  have hN : t.val < 44 := lt_of_lt_of_eq t.isLt (show cfg0.N = 44 from N_0)
  refine funext fun (y : S1024x4096.Idx) => ?_
  have hr : t.val / 11 * 1024 + (y 0).val < 4096 := by have : (y 0).val < 1024 := (y 0).isLt; omega
  exact (congrArg (iblk m c 0 t : S1024x4096.Idx → EReal) (eq_ix2 y)).trans ((act_apply m c t (y 0) (y 1) ⟨_, hr⟩ rfl).trans
    ((act_apply m c t' (y 0) (y 1) ⟨_, hr⟩ (by rw [← h])).symm.trans (congrArg (iblk m c 0 t' : S1024x4096.Idx → EReal) (eq_ix2 y).symm)))

/-- The part of a block of the result inside the array does not depend on what fills the inputs' buffers past the array's end. -/
theorem cut_result (c : Dev nD) (t : Fin cfg0.N) (x : S1024x4096.Idx → EReal) (xs : S1024x1.Idx → EReal)
    (d1 d1' : S1024x2048.Idx → BitVec 32) (d2 d2' d3 d3' : S1x1024.Idx → EReal) :
    win0_4.cut (grid0.coords t) (k0_pay2 (F := Ideal) (win0_1.fill (grid0.coords t) d1 (iblk m c 1 t)) x
        (win0_2.fill (grid0.coords t) d2 (iblk m c 2 t)) (win0_3.fill (grid0.coords t) d3 (iblk m c 3 t)) xs)
      = win0_4.cut (grid0.coords t) (k0_pay2 (F := Ideal) (win0_1.fill (grid0.coords t) d1' (iblk m c 1 t)) x
        (win0_2.fill (grid0.coords t) d2' (iblk m c 2 t)) (win0_3.fill (grid0.coords t) d3' (iblk m c 3 t)) xs) := by
  funext y
  have h1 : (y 1).val < min 1024 (11008 - t.val % 11 * 1024) := lt_of_lt_of_eq (y 1).isLt (congrFun (size_4 t) 1)
  have h0 : (y 0).val < 1024 := lt_of_lt_of_eq (y 0).isLt (congrFun (size_4 t) 0)
  have e : win0_4.xinj (grid0.coords t) y = (ix2 (⟨(y 0).val, h0⟩ : Fin 1024) (⟨(y 1).val, by omega⟩ : Fin 1024) : S1024x1024.Idx) := by
    funext a
    match a with
    | ⟨0, _⟩ => rfl
    | ⟨1, _⟩ => rfl
  have hr : (⟨t.val % 11 * 1024 + (y 1).val, by omega⟩ : Fin 11008).val = t.val % 11 * 1024 + (⟨(y 1).val, by omega⟩ : Fin 1024).val := rfl
  show k0_pay2 _ _ _ _ _ (win0_4.xinj (grid0.coords t) y) = k0_pay2 _ _ _ _ _ (win0_4.xinj (grid0.coords t) y)
  rw [e, pay2_apply, pay2_apply, scales_apply m c t d2 _ _ hr, scales_apply m c t d2' _ _ hr,
    zeros_apply m c t d3 _ _ hr, zeros_apply m c t d3' _ _ hr]
  simp only [codes_apply m c t d1 _ _ _ hr, codes_apply m c t d1' _ _ _ hr]

end Cert.KernelIdeal.Body

end
-- ==== Proof.IdealFrame.lean ====
module

public import proofs.«01_k».proof.Proof.IdealBody
public import proofs.«01_k».proof.Proof.Blocks

@[expose] public section

/-!
  The kernel read over the extended reals: every execution ends, the result array at the blocks the points leave, the
  argument arrays as they were, every counter at zero. The scratch is followed from point to point: after each it holds the
  row sums of that point's block of activations.
-/

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-- The packed codes' buffer after a point: the part inside the array at the array's block, zeros past it. -/
def codes (c : Dev nD) (t : Fin cfg0.N) : S1024x2048.Idx → Elt Ideal .i32 :=
  win0_1.fill (grid0.coords t) (fun _ => (0#32 : BitVec 32)) (iblk m c 1 t)
/-- The scales' buffer likewise. -/
def scales (c : Dev nD) (t : Fin cfg0.N) : S1x1024.Idx → Elt Ideal .f32 :=
  win0_2.fill (grid0.coords t) (fun _ => (0 : EReal)) (iblk m c 2 t)
/-- The zero points' buffer likewise. -/
def zeros (c : Dev nD) (t : Fin cfg0.N) : S1x1024.Idx → Elt Ideal .f32 :=
  win0_3.fill (grid0.coords t) (fun _ => (0 : EReal)) (iblk m c 3 t)

/-- The result's buffer after a point, the inputs' buffers filled with zeros past the arrays' ends. -/
def result (c : Dev nD) (t : Fin cfg0.N) : S1024x1024.Idx → EReal :=
  k0_pay2 (F := Ideal) (codes m c t) (iblk m c 0 t) (scales m c t) (zeros m c t) (k0_pay1 (F := Ideal) (iblk m c 0 t))

/-- What the scratch and the generator hold before point `n`: the row sums the point before left, if there was one. -/
def held (c : Dev nD) (n : ℕ) (hn : n ≤ cfg0.N) : sProp 𝕄 :=
  iprop((∃ d, owns (c : Thread nD τ) sums fullShare d
      ∗ ⌜∀ k (hk : k + 1 = n), d = k0_pay1 (F := Ideal) (iblk m c 0 ⟨k, by omega⟩)⌝) ∗ ∃ r, prngReg c r)

/-- The proof data: the arrays as the pipeline finds them, the inputs' buffers at their blocks, the result's at `result`,
    the scratch at `held`, nothing owed, full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => codes m c t
    | ⟨2, _⟩ => scales m c t
    | ⟨3, _⟩ => zeros m c t
    | ⟨4, _⟩ => result m c t
  Φ t := held m c t.val (Nat.le_of_lt_succ t.isLt)
  q _ := fullShare
  owed _ := 0

/-- The arrays of the proof data are what the pipeline finds. -/
theorem A_eq (c : Dev nD) (w : Fin cfg0.W) : (dats m 0 c).A w = V m c (Pipeline.arrRef spec0 w) := by
  dsimp only [dats]

/-- After the body the activations' buffer is at its block. -/
theorem after_0 (c : Dev nD) (t : Fin cfg0.N) : (dats m 0 c).after 0 t = iblk m c 0 t := by dsimp only [dats]

/-- Before the body too, fetched at that point or not. -/
theorem before_0 (c : Dev nD) (t : Fin cfg0.N) (d) : (dats m 0 c).before 0 t d = iblk m c 0 t :=
  before0_0_of m (dats m 0 c) (A_eq m c 0) (after_0 m c) t d

/-- A buffer fetched at point `t` holds the window's block on the part inside the array and `d` past it. -/
theorem before_fetched (c : Dev nD) (w : Fin cfg0.W) (t : Fin cfg0.N) (hf : (cfg0.win w).fetch t = true) (d) :
    (dats m 0 c).before w t d = (cfg0.win w).fill (cfg0.grid.coords t) d (iblk m c w t) := by
  unfold Dat.before; rw [if_pos hf]
  unfold Dat.fetched Dat.blockOf iblk; rw [A_eq]

/-- What the body is called with at point `t`. -/
def pre (c : Dev nD) (t : Fin cfg0.N) : sProp 𝕄 :=
  iprop(held m c t.val (Nat.le_of_lt t.isLt) ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns: the cut buffers described on the parts inside their arrays. -/
def post (c : Dev nD) (t : Fin cfg0.N) : sProp 𝕄 :=
  iprop(held m c (t.val + 1) t.isLt ∗ (dats m 0 c).owesAt () t.castSucc
    ∗ owns (c : Thread nD τ) (st0_0 t) fullShare ((dats m 0 c).after 0 t)
    ∗ (∃ d, owns (c : Thread nD τ) (st0_1 t) fullShare (win0_1.fill (grid0.coords t) d (win0_1.cut (grid0.coords t) (codes m c t))))
    ∗ (∃ d, owns (c : Thread nD τ) (st0_2 t) fullShare (win0_2.fill (grid0.coords t) d (win0_2.cut (grid0.coords t) (scales m c t))))
    ∗ (∃ d, owns (c : Thread nD τ) (st0_3 t) fullShare (win0_3.fill (grid0.coords t) d (win0_3.cut (grid0.coords t) (zeros m c t))))
    ∗ (∃ d, owns (c : Thread nD τ) (st0_4 t) fullShare (win0_4.fill (grid0.coords t) d (win0_4.cut (grid0.coords t) (result m c t)))))

/-- The part of the packed codes' buffer inside the array is the block. -/
theorem cut_codes (c : Dev nD) (t : Fin cfg0.N) : win0_1.cut (grid0.coords t) (codes m c t) = iblk m c 1 t := win0_1.cut_fill _ _ _
/-- The same for the scales. -/
theorem cut_scales (c : Dev nD) (t : Fin cfg0.N) : win0_2.cut (grid0.coords t) (scales m c t) = iblk m c 2 t := win0_2.cut_fill _ _ _
/-- The same for the zero points. -/
theorem cut_zeros (c : Dev nD) (t : Fin cfg0.N) : win0_3.cut (grid0.coords t) (zeros m c t) = iblk m c 3 t := win0_3.cut_fill _ _ _

/-- What the body leaves in the result's buffer is `result` on the part inside the array, whatever the inputs' buffers hold past
    their arrays' ends. -/
theorem fill_result (c : Dev nD) (t : Fin cfg0.N) (d1 : S1024x2048.Idx → BitVec 32) (d2 d3 : S1x1024.Idx → EReal) :
    win0_4.fill (grid0.coords t) (k0_pay2 (F := Ideal) (win0_1.fill (grid0.coords t) d1 (iblk m c 1 t)) (iblk m c 0 t)
        (win0_2.fill (grid0.coords t) d2 (iblk m c 2 t)) (win0_3.fill (grid0.coords t) d3 (iblk m c 3 t)) (k0_pay1 (F := Ideal) (iblk m c 0 t)))
        (win0_4.cut (grid0.coords t) (result m c t))
      = k0_pay2 (F := Ideal) (win0_1.fill (grid0.coords t) d1 (iblk m c 1 t)) (iblk m c 0 t)
        (win0_2.fill (grid0.coords t) d2 (iblk m c 2 t)) (win0_3.fill (grid0.coords t) d3 (iblk m c 3 t)) (k0_pay1 (F := Ideal) (iblk m c 0 t)) :=
  win0_4.fill_congr_cut (grid0.coords t) (cut_result m c t _ _ _ _ _ _ _ _)

set_option maxHeartbeats 1000000 in
/-- The body's triple at a point: from the buffers as fetched to the buffers as handed back. -/
theorem triple (c : Dev nD) (t : Fin cfg0.N) :
    pre m c t ⊢ wp frame (wpE (defs₀ (F := Ideal)) Variants.none c none) Set.univ (bodyAt0 t) (fun _ => post m c t) := by
  unfold pre post bodyAt0
  rw [after_0, cut_codes, cut_scales, cut_zeros]
  unfold held
  simp only [before_0, before_fetched m c 1 t (fetch0_1 t), before_fetched m c 2 t (fetch0_2 t), before_fetched m c 3 t (fetch0_3 t)]
  iintro ⟨⟨⟨%xs, HS, %hxs⟩, Hg⟩, Ho, ⟨%d0, H0⟩, ⟨%d1, H1⟩, ⟨%d2, H2⟩, ⟨%d3, H3⟩, ⟨%d4, H4⟩⟩
  by_cases h0 : t.val % 11 = 0
  · iapply (run_first c (grid0.coords t) _ _ _ _ _ _ _ _ _ _ _ _ (iblk m c 0 t) (win0_1.fill (grid0.coords t) d1 (iblk m c 1 t))
      (win0_2.fill (grid0.coords t) d2 (iblk m c 2 t)) (win0_3.fill (grid0.coords t) d3 (iblk m c 3 t)) ((first_iff t).mpr h0) Set.univ _)
    unfold inputs
    isplitl [H0 H1 H2 H3]
    · isplitl [H0]; · iexact H0
      isplitl [H1]; · iexact H1
      isplitl [H2]; · iexact H2
      iexact H3
    isplitl [H4]; · iexists _; iexact H4
    isplitl [HS]; · iexists _; iexact HS
    iintro ⟨⟨H0, H1, H2, H3⟩, H4, HS⟩
    isplitl [HS Hg]
    · isplitl [HS]
      · iexists _
        isplitl [HS]; · iexact HS
        ipureintro
        intro k hk
        obtain rfl : k = t.val := by omega
        rfl
      iexact Hg
    isplitl [Ho]; · iexact Ho
    isplitl [H0]; · iexact H0
    isplitl [H1]; · iexists _; iexact H1
    isplitl [H2]; · iexists _; iexact H2
    isplitl [H3]; · iexists _; iexact H3
    iexists (k0_pay2 (F := Ideal) (win0_1.fill (grid0.coords t) d1 (iblk m c 1 t)) (iblk m c 0 t) (win0_2.fill (grid0.coords t) d2 (iblk m c 2 t))
      (win0_3.fill (grid0.coords t) d3 (iblk m c 3 t)) (k0_pay1 (F := Ideal) (iblk m c 0 t)))
    rw [fill_result]; iexact H4
  · obtain rfl : xs = k0_pay1 (F := Ideal) (iblk m c 0 t) :=
      (hxs (t.val - 1) (by omega)).trans (congrArg (k0_pay1 (F := Ideal)) (act_same m c ⟨t.val - 1, by omega⟩ t (by show (t.val - 1) / 11 = t.val / 11; omega)))
    iapply (run_later c (grid0.coords t) _ _ _ _ _ _ _ _ _ _ _ _ (iblk m c 0 t) (win0_1.fill (grid0.coords t) d1 (iblk m c 1 t))
      (win0_2.fill (grid0.coords t) d2 (iblk m c 2 t)) (win0_3.fill (grid0.coords t) d3 (iblk m c 3 t)) (fun h => h0 ((first_iff t).mp h)) (k0_pay1 (F := Ideal) (iblk m c 0 t)) Set.univ _)
    unfold inputs
    isplitl [H0 H1 H2 H3]
    · isplitl [H0]; · iexact H0
      isplitl [H1]; · iexact H1
      isplitl [H2]; · iexact H2
      iexact H3
    isplitl [H4]; · iexists _; iexact H4
    isplitl [HS]; · iexact HS
    iintro ⟨⟨H0, H1, H2, H3⟩, H4, HS⟩
    isplitl [HS Hg]
    · isplitl [HS]
      · iexists _
        isplitl [HS]; · iexact HS
        ipureintro
        intro k hk
        obtain rfl : k = t.val := by omega
        rfl
      iexact Hg
    isplitl [Ho]; · iexact Ho
    isplitl [H0]; · iexact H0
    isplitl [H1]; · iexists _; iexact H1
    isplitl [H2]; · iexists _; iexact H2
    isplitl [H3]; · iexists _; iexact H3
    iexists (k0_pay2 (F := Ideal) (win0_1.fill (grid0.coords t) d1 (iblk m c 1 t)) (iblk m c 0 t) (win0_2.fill (grid0.coords t) d2 (iblk m c 2 t))
      (win0_3.fill (grid0.coords t) d3 (iblk m c 3 t)) (k0_pay1 (F := Ideal) (iblk m c 0 t)))
    rw [fill_result]; iexact H4

/-- The body table's entry at point `t`'s buffers is the body. -/
theorem body_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) :
    BodyObligationLoose (dats m 0 c) (defs₀ (F := Ideal)) Variants.none () Set.univ := fun t => by
  rw [bigSep_W0, bigSep_W0, body_row]
  exact triple_restated (triple m c t) rfl .rfl fun _ => .rfl

/-- Before the first point the scratch is at anything. -/
theorem held_first (c : Dev nD) : Pipeline.ΦA spec0 c ⊢ (dats m 0 c).Φ 0 := by
  show _ ⊢ held m c 0 (Nat.zero_le _)
  rw [rest_eq]; unfold held
  iintro ⟨⟨%d, HS⟩, Hg⟩
  isplitl [HS]
  · iexists d
    isplitl [HS]; · iexact HS
    ipureintro
    intro k hk; omega
  iexact Hg

/-- After the last point what the scratch holds is forgotten. -/
theorem held_last (c : Dev nD) : (dats m 0 c).Φ (Fin.last cfg0.N) ⊢ Pipeline.ΦA spec0 c := by
  show held m c cfg0.N (Nat.le_refl _) ⊢ _
  rw [rest_eq]; unfold held
  iintro ⟨⟨%d, HS, -⟩, Hg⟩
  isplitl [HS]
  · iexists d; iexact HS
  iexact Hg

-- the launch theorem's implicit arguments are found by unifying its conclusion with this one
set_option backward.isDefEq.respectTransparency.types false in
/-- The launch: every execution ends, the arrays at what the proof data says, the counters at zero. -/
theorem run : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := held_first m) (hout := held_last m)

/-- Every execution of the kernel ends with the result array at what the points wrote back, the argument arrays as they were
    and every counter at zero. -/
theorem framed : θ_run defs (onTc (τ := τ) (main (F := Ideal))) ⟨m, fun _ => 0, ρ⟩ (fun r => (∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨h.1.out_eq c 4,
      ((h.1 c).2 main_arg0 (Pipeline.mem_restRefs_of main_arg0 (by decide) (by decide))).trans (V_main_arg0 m c),
      (h.1.in_eq c 1 rfl).trans ((A_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run m ρ)

end Cert.KernelIdeal.Body

end
-- ==== Proof.Split.lean ====
module

public import proofs.«01_k».proof.Proof.Codes
public import proofs.«01_k».proof.Proof.Gen.Pre_finite
public import Idealize.ShloMosaic.Lib.ReduceAll

@[expose] public section

/-!
  The law that joins the two programs: over the reals, raising every code and every zero point by 128 leaves the result
  as it is. Over the extended reals it asks for finite values, which is what the precondition says.
-/

set_option maxRecDepth 16384

noncomputable section

namespace Cert.Codes

open Idealize.ShloMosaic

/-- An extended real whose absolute value is below the infinity of the precondition is a real. -/
theorem real_of_abs_lt (x : EReal) (h : FloatOps.cmpf (F := Ideal) (φ := .f32) .olt (max x (-x)) (Ideal.ofBits .f32 0x7F800000#32) = 1#1) :
    ∃ r : ℝ, x = r := by
  have ht : Ideal.ofBits .f32 0x7F800000#32 = ⊤ := by simp [Ideal.ofBits, Ideal.ieee]
  rw [ht] at h
  induction x using EReal.rec with
  | bot => simp [FloatOps.cmpf, Ideal.cmp] at h
  | top => simp [FloatOps.cmpf, Ideal.cmp] at h
  | coe r => exact ⟨r, rfl⟩

/-- The precondition: every activation, scale and zero point is a real. -/
theorem reals (x : FVec Ideal Pre_finite.S4096x4096 .f32) (p : IVec Pre_finite.S11008x2048 32) (s z : FVec Ideal Pre_finite.S11008 .f32)
    (h : Cert.Pre_finite.fn x p s z = fun _ => 1#1) :
    (∀ i, ∃ r : ℝ, x i = r) ∧ (∀ i, ∃ r : ℝ, s i = r) ∧ (∀ i, ∃ r : ℝ, z i = r) := by
  have : Subsingleton Pre_finite.S_.Idx := ⟨fun a b => funext fun c => c.elim0⟩
  have h0 := congrFun h (fun a => a.elim0)
  unfold Cert.Pre_finite.fn at h0
  obtain ⟨h1, hz⟩ := IntOp.andi_eq_one.1 h0
  obtain ⟨hx, hs⟩ := IntOp.andi_eq_one.1 h1
  exact ⟨fun i => real_of_abs_lt _ (Host.reduce_andi_all _ _ _ _ _ hx i), fun i => real_of_abs_lt _ (Host.reduce_andi_all _ _ _ _ _ hs i),
    fun i => real_of_abs_lt _ (Host.reduce_andi_all _ _ _ _ _ hz i)⟩

/-- A sum of reals, as an extended real. -/
theorem coe_sum {n : ℕ} (f : Fin n → ℝ) : ((∑ k, f k : ℝ) : EReal) = ∑ k, (f k : EReal) :=
  map_sum (⟨⟨fun r : ℝ => (r : EReal), EReal.coe_zero⟩, EReal.coe_add⟩ : ℝ →+ EReal) f Finset.univ

/-- The kernel's split sum is the reference's, over the reals. -/
theorem split_sum {n : ℕ} (x c : Fin n → ℝ) (s z : ℝ) :
    (∑ k, (x k : EReal) * ((128 + c k : ℝ) : EReal)) * (s : EReal) - (∑ k, (x k : EReal)) * ((s : EReal) * ((z : EReal) + ((128 : ℝ) : EReal)))
      = ∑ k, (x k : EReal) * (((c k : EReal) - (z : EReal)) * (s : EReal)) := by
  have e : (∑ k, x k * (128 + c k)) * s - (∑ k, x k) * (s * (z + 128)) = ∑ k, x k * ((c k - z) * s) := by
    rw [Finset.sum_mul, Finset.sum_mul, ← Finset.sum_sub_distrib]
    exact Finset.sum_congr rfl fun k _ => by ring
  have e' := congrArg (fun r : ℝ => (r : EReal)) e
  simpa only [EReal.coe_sub, EReal.coe_mul, EReal.coe_add, coe_sum] using e'

end Cert.Codes

end
-- ==== Proof.Reference.lean ====
module

public import proofs.«01_k».proof.Proof.Codes
public import proofs.«01_k».proof.Proof.Gen.ReferenceIdeal.Run

@[expose] public section

/-!
  The reference: its one result as a term of the arguments, read at an index, and its run restated at that term.
-/

set_option maxRecDepth 16384

noncomputable section

namespace Cert.ReferenceIdeal.Value

open Cert.ReferenceIdeal.Gen Cert.Codes
open Idealize.ShloMosaic Idealize.ShloMosaic.TcCoe Idealize.SL.Sem

/-- The reference's result as a term of its four arguments: its operations in the order it runs them. -/
def linear (x : FVec Ideal S4096x4096 .f32) (p : IVec S11008x2048 32) (s z : FVec Ideal S11008 .f32) : FVec Ideal S4096x11008 .f32 :=
  Host.dotGeneral dot_S4096x4096_S4096x11008_S4096x11008_1_0_0_1_n_n none x (transpose S4096x11008 [1, 0] (mulf (subf (shapeCast _ (concatenate S11008x2048x2 2 [⟨S11008x2048x1, (broadcastInDim S11008x2048x1 ![0, 1] bcast_S11008x2048_S11008x2048x1_0_1 (sitofp .f32 (andi p (broadcastInDim S11008x2048 ![] bcast_S_S11008x2048 (constantI S_ 32 15#32)))))⟩, ⟨S11008x2048x1, (broadcastInDim S11008x2048x1 ![0, 1] bcast_S11008x2048_S11008x2048x1_0_1 (sitofp .f32 (andi (Host.shrsi p (broadcastInDim S11008x2048 ![] bcast_S_S11008x2048 (constantI S_ 32 4#32))) (broadcastInDim S11008x2048 ![] bcast_S_S11008x2048 (constantI S_ 32 15#32)))))⟩] concatenates_S11008x2048x1_S11008x2048x1_S11008x2048x2_d2) shapeCasts_S11008x2048x2_S11008x4096) (broadcastInDim S11008x4096 ![0, 1] bcast_S11008x1_S11008x4096_0_1 (broadcastInDim S11008x1 ![0] bcast_S11008_S11008x1_0 z))) (broadcastInDim S11008x4096 ![0, 1] bcast_S11008x1_S11008x4096_0_1 (broadcastInDim S11008x1 ![0] bcast_S11008_S11008x1_0 s))) transposes_S11008x4096_S4096x11008_1_0)

/-- The result at row `i` and column `j`: the activations' row against the codes, each less its zero point and scaled. -/
theorem linear_apply (x : FVec Ideal S4096x4096 .f32) (p : IVec S11008x2048 32) (s z : FVec Ideal S11008 .f32) (i : Fin 4096) (j : Fin 11008) :
    linear x p s z (ix2 i j)
      = ∑ k : Fin 4096, x (ix2 i k) * (((code (k.val % 2) (p (ix2 j (half k))) : EReal) - z (ix1 j)) * s (ix1 j)) := by
  pointwise [linear]
  refine Finset.sum_congr rfl fun k _ => ?_
  have e : (if h : k.val % 2 < 1 then FloatOps.sitofp (F := Ideal) .f32 (IntOp.andi (p (ix2 j (half k))) 15#32)
      else FloatOps.sitofp (F := Ideal) .f32 (IntOp.andi (IntOp.shrsi .host (p (ix2 j (half k))) 4#32) 15#32))
      = (code (k.val % 2) (p (ix2 j (half k))) : EReal) := by
    rcases Nat.mod_two_eq_zero_or_one k.val with h | h
    · rw [h, dif_pos (by decide)]
      exact congrArg (fun r : ℝ => (r : EReal)) (and_value _)
    · rw [h, dif_neg (by decide)]
      exact congrArg (fun r : ℝ => (r : EReal)) (shift_and_value _)
  exact congrArg (fun y : EReal => x (ix2 i k) * ((y - z (ix1 j)) * s (ix1 j))) e

/-- The reference ends with its result at `linear` of the arguments, and the arguments as they were. -/
theorem run_linear (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = linear (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

end Cert.ReferenceIdeal.Value

end
-- ==== Proof.Result.lean ====
module

public import proofs.«01_k».proof.Proof.IdealFrame
public import proofs.«01_k».proof.Proof.Split
public import proofs.«01_k».proof.Proof.Reference

@[expose] public section

/-!
  The kernel's result array, element by element, and its equality with the reference's result where the arguments are finite.
-/

set_option maxRecDepth 16384

noncomputable section

namespace Cert.KernelIdeal.Body

open Cert.KernelIdeal.Gen Cert.Codes
open Idealize.ShloMosaic Idealize.ShloMosaic.TcCoe Idealize.ShloMosaic.StableHlo

variable (m : (ℓ : Loc nD τ sig) → Buf (Elt Ideal) ℓ)

/-- The pipeline finds the activations as launched: over the extended reals a change of format changes nothing. -/
theorem entry_x (c : Dev nD) (i k : Fin 4096) :
    (V m c main_call0_v0 : S4096x4096.Idx → EReal) (ix2 i k) = (m ((c : Thread nD τ).loc main_arg0) : S4096x4096.Idx → EReal) (ix2 i k) := by
  have e : V m c main_call0_v0 = (truncf .bf16 (m ((c : Thread nD τ).loc main_arg0) : FVec Ideal S4096x4096 .f32) bitsLt_bf16_f32 : FVec Ideal S4096x4096 .bf16) := by
    show StableHlo.after hostOps0 (fun b => m (c, b)) _ = _
    unfold hostOps0
    after_results <;> rfl
  exact congrFun e _

/-- A vector laid out as one row, read at a column. -/
theorem row_apply (v : FVec Ideal S11008 .f32) (j : Fin 11008) : shapeCast S1x11008 v shapeCasts_S11008_S1x11008 (ix2 0 j) = v (ix1 j) := by
  pointwise

/-- It finds the scales as launched, laid out as one row. -/
theorem entry_s (c : Dev nD) (j : Fin 11008) :
    (V m c main_call0_v1 : S1x11008.Idx → EReal) (ix2 0 j) = (m ((c : Thread nD τ).loc main_arg2) : S11008.Idx → EReal) (ix1 j) := by
  have e : V m c main_call0_v1 = (shapeCast S1x11008 (m ((c : Thread nD τ).loc main_arg2) : FVec Ideal S11008 .f32) shapeCasts_S11008_S1x11008 : FVec Ideal S1x11008 .f32) := by
    show StableHlo.after hostOps0 (fun b => m (c, b)) _ = _
    unfold hostOps0
    after_results <;> rfl
  exact (congrFun e _).trans (row_apply _ j)

/-- It finds the zero points as launched, laid out as one row. -/
theorem entry_z (c : Dev nD) (j : Fin 11008) :
    (V m c main_call0_v2 : S1x11008.Idx → EReal) (ix2 0 j) = (m ((c : Thread nD τ).loc main_arg3) : S11008.Idx → EReal) (ix1 j) := by
  have e : V m c main_call0_v2 = (shapeCast S1x11008 (m ((c : Thread nD τ).loc main_arg3) : FVec Ideal S11008 .f32) shapeCasts_S11008_S1x11008 : FVec Ideal S1x11008 .f32) := by
    show StableHlo.after hostOps0 (fun b => m (c, b)) _ = _
    unfold hostOps0
    after_results <;> rfl
  exact (congrFun e _).trans (row_apply _ j)

/-- What a point leaves at row `i` and column `j` of its block of the result, where that lies inside the array at row `r` and
    column `q`: the split sum of the array's row and column. -/
theorem result_apply (c : Dev nD) (t : Fin cfg0.N) (i j : Fin 1024) (r : Fin 4096) (q : Fin 11008)
    (hr : r.val = t.val / 11 * 1024 + i.val) (hq : q.val = t.val % 11 * 1024 + j.val)
    (x : S4096x4096.Idx → EReal) (p : S11008x2048.Idx → BitVec 32) (s z : S11008.Idx → EReal)
    (hx : m ((c : Thread nD τ).loc main_arg0) = x) (hp : m ((c : Thread nD τ).loc main_arg1) = p)
    (hs : m ((c : Thread nD τ).loc main_arg2) = s) (hz : m ((c : Thread nD τ).loc main_arg3) = z) :
    result m c t (ix2 i j)
      = (∑ k : Fin 4096, x (ix2 r k) * ((128 + code (k.val % 2) (p (ix2 q (half k))) : ℝ) : EReal)) * s (ix1 q)
        - (∑ k : Fin 4096, x (ix2 r k)) * (s (ix1 q) * (z (ix1 q) + ((128 : ℝ) : EReal))) := by
  unfold result codes scales zeros
  rw [pay2_apply, pay1_apply, scales_apply m c t _ j q hq, zeros_apply m c t _ j q hq, entry_s, entry_z, hs, hz]
  have e : ∀ k : Fin 4096, (iblk m c 0 t : S1024x4096.Idx → EReal) (ix2 i k) = x (ix2 r k) := fun k =>
    (act_apply m c t i k r hr).trans ((entry_x m c r k).trans (congrFun hx _))
  have e' : ∀ k : Fin 2048, (win0_1.fill (grid0.coords t) (fun _ => (0#32 : BitVec 32)) (iblk m c 1 t) : S1024x2048.Idx → BitVec 32) (ix2 j k) = p (ix2 q k) := fun k =>
    (codes_apply m c t _ j k q hq).trans (congrFun ((V_main_arg1 m c).trans hp) _)
  simp only [e, e']

/-- Where activations, scales and zero points are reals, the kernel's result array is the reference's result. -/
theorem final (c : Dev nD) (x : S4096x4096.Idx → EReal) (p : S11008x2048.Idx → BitVec 32) (s z : S11008.Idx → EReal)
    (hx : m ((c : Thread nD τ).loc main_arg0) = x) (hp : m ((c : Thread nD τ).loc main_arg1) = p)
    (hs : m ((c : Thread nD τ).loc main_arg2) = s) (hz : m ((c : Thread nD τ).loc main_arg3) = z)
    (fx : ∀ i, ∃ r : ℝ, x i = r) (fs : ∀ i, ∃ r : ℝ, s i = r) (fz : ∀ i, ∃ r : ℝ, z i = r) :
    (dats m 0 c).arrAt 4 cfg0.N = Cert.ReferenceIdeal.Value.linear x p s z := by
  refine (dats m 0 c).arrAt_eq_of_covers 4 _ (by decide +kernel) fun t hf y => ?_
  have h1 : (y 1).val < min 1024 (11008 - t.val % 11 * 1024) := lt_of_lt_of_eq (y 1).isLt (congrFun (size_4 t) 1)
  have h0 : (y 0).val < 1024 := lt_of_lt_of_eq (y 0).isLt (congrFun (size_4 t) 0)
  have hN : t.val < 44 := lt_of_lt_of_eq t.isLt (show cfg0.N = 44 from N_0)
  have hr : t.val / 11 * 1024 + (y 0).val < 4096 := by omega
  have hq : t.val % 11 * 1024 + (y 1).val < 11008 := by omega
  have hj : (y 1).val < 1024 := by omega
  have e : win0_4.xinj (grid0.coords t) y = (ix2 (⟨(y 0).val, h0⟩ : Fin 1024) (⟨(y 1).val, hj⟩ : Fin 1024) : S1024x1024.Idx) := by
    funext a
    match a with
    | ⟨0, _⟩ => rfl
    | ⟨1, _⟩ => rfl
  have e' : (win0_4.blk t).view.emb y = (ix2 (⟨_, hr⟩ : Fin 4096) (⟨_, hq⟩ : Fin 11008) : S4096x11008.Idx) := by
    blk_ext [index_4]
  obtain ⟨x', hx'⟩ : ∃ x' : Fin 4096 → ℝ, ∀ k, x (ix2 ⟨_, hr⟩ k) = x' k := ⟨fun k => (fx _).choose, fun k => (fx _).choose_spec⟩
  obtain ⟨s', hs'⟩ := fs (ix1 ⟨_, hq⟩)
  obtain ⟨z', hz'⟩ := fz (ix1 ⟨_, hq⟩)
  blk_simp
  rw [e']
  refine (congrArg (result m c t) e).trans ?_
  rw [result_apply m c t ⟨(y 0).val, h0⟩ ⟨(y 1).val, hj⟩ ⟨_, hr⟩ ⟨_, hq⟩ rfl rfl x p s z hx hp hs hz]
  refine Eq.trans ?_ (Cert.ReferenceIdeal.Value.linear_apply x p s z ⟨_, hr⟩ ⟨_, hq⟩).symm
  rw [hs', hz']
  simp only [hx']
  exact split_sum _ _ s' z'

end Cert.KernelIdeal.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.KernelFrame
public import proofs.«01_k».proof.Proof.IdealFrame
public import proofs.«01_k».proof.Proof.Split
public import proofs.«01_k».proof.Proof.Reference
public import proofs.«01_k».proof.Proof.Result
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- Over the extended reals the kernel terminates with its arguments as they were and every counter at zero. -/
theorem ideal_quiet : quiescent_KernelIdeal (hKernelIdeal := Cert.KernelIdeal.Gen.facts) := fun m g _ =>
  (θ_run _ _ _).mono (fun _ h => ⟨fun c => (h.1 c).2, h.2⟩) (Cert.KernelIdeal.Body.framed m g)

/-- The reference terminates with its arguments as they were; its program has no counter that could be left non-zero. -/
theorem reference_quiet : quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run_linear m g)

/-- From memories that agree on the four arguments, finite where the precondition asks it, the kernel and the reference
    both end with their result at the same array: the dequantised linear layer of the arguments. -/
theorem same_result : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => Cert.ReferenceIdeal.Value.linear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run _ _ _).mono (fun r h c => ⟨(h.1 c).1.trans ?_, (h.1 c).2⟩) (Cert.KernelIdeal.Body.framed m g)
    obtain ⟨fx, fs, fz⟩ := Cert.Codes.reals _ _ _ _ (hpre c)
    exact Cert.KernelIdeal.Body.final m c _ _ _ _ rfl rfl rfl rfl fx fs fz
  · refine (θ_run _ _ _).mono (fun r h c => ⟨(h c).1.trans ?_, (h c).2⟩) (Cert.ReferenceIdeal.Value.run_linear m' g')
    obtain ⟨e0, e1, e2, e3⟩ := hargs c
    rw [e0, e1, e2, e3]

/-- Everything the certificate claims. -/
theorem claim : Cert.Claim :=
  ⟨Cert.Kernel.Gen.facts, Cert.KernelIdeal.Gen.facts, Cert.ReferenceIdeal.Gen.facts, Cert.Pre_finite.Gen.facts,
    fun m g _ => Cert.Kernel.Body.framed m g, ideal_quiet, fun m g _ => ideal_quiet m g trivial,
    reference_quiet, fun m g _ => reference_quiet m g trivial, trivial, same_result⟩

end Cert.Proof

end
